-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S32768 : Shape := ⟨1, ![32768]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1024x512 : Shape := ⟨2, ![1024, 512]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S16x1x2048 : Shape := ⟨3, ![16, 1, 2048]⟩
abbrev S1x1 : Shape := ⟨2, ![1, 1]⟩
abbrev S16x1024 : Shape := ⟨2, ![16, 1024]⟩
abbrev S2048x1024 : Shape := ⟨2, ![2048, 1024]⟩
abbrev S1x1x2048 : Shape := ⟨3, ![1, 1, 2048]⟩
abbrev S16x1 : Shape := ⟨2, ![16, 1]⟩
abbrev S1x2048 : Shape := ⟨2, ![1, 2048]⟩
abbrev S1024x1 : Shape := ⟨2, ![1024, 1]⟩
abbrev S16x2048 : Shape := ⟨2, ![16, 2048]⟩
abbrev S16 : Shape := ⟨1, ![16]⟩

abbrev nBuf : Space → Nat
  | .hbm => 26
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1024, .bf16⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1024, .f32⟩
  | .hbm, ⟨19, _⟩ => ⟨S1x1024, .f32⟩
  | .hbm, ⟨20, _⟩ => ⟨S16x1x2048, .i32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S1x1, .f32⟩
  | .hbm, ⟨25, _⟩ => ⟨S16x1024, .f32⟩
  | .local _ .vmem, ⟨0, _⟩ => ⟨S2048x1024, .f32⟩
  | .local _ .vmem, ⟨1, _⟩ => ⟨S2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S1024x1024, .bf16⟩
  | .local _ .vmem, ⟨5, _⟩ => ⟨S1x1024, .f32⟩
  | .local _ .vmem, ⟨6, _⟩ => ⟨S1x512, .f32⟩
  | .local _ .vmem, ⟨7, _⟩ => ⟨S1x1, .f32⟩
  | .local _ .vmem, ⟨8, _⟩ => ⟨S16x1024, .f32⟩
  | .local _ .vmem, ⟨9, _⟩ => ⟨S16x1024, .f32⟩
  | .local _ .vmem, ⟨10, _⟩ => ⟨S16x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v91 : BitVec 1 := Scalar.cmpi .eq arg0 c15_i32
  let v92 : BitVec 32 := Scalar.extui v91
  let c0_i32_38 : BitVec 32 := 0#32
  let v93 : BitVec 1 := Scalar.cmpi .ne v92 c0_i32_38
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x1024 : Shape := ⟨2, ![32768, 1024]⟩
abbrev S32768 : Shape := ⟨1, ![32768]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1024x512 : Shape := ⟨2, ![1024, 512]⟩
abbrev S32768x512 : Shape := ⟨2, ![32768, 512]⟩
abbrev S_ : Shape := ⟨0, ![]⟩
abbrev S512x1 : Shape := ⟨2, ![512, 1]⟩
abbrev S32768x1 : Shape := ⟨2, ![32768, 1]⟩
abbrev S1x1 : Shape := ⟨2, ![1, 1]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x1024 : Shape := ⟨2, ![16, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1024x512, .f32⟩
  | .hbm, ⟨9, _⟩ => ⟨S32768x512, .f32⟩
  | .hbm, ⟨10, _⟩ => ⟨S1x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S1024x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S512x1, .f32⟩
  | .hbm, ⟨29, _⟩ => ⟨S32768x1, .f32⟩
  | .hbm, ⟨30, _⟩ => ⟨S1x1, .f32⟩
  | .hbm, ⟨31, _⟩ => ⟨S32768x1, .f32⟩
  | .hbm, ⟨32, _⟩ => ⟨S32768x1, .f32⟩
  | .hbm, ⟨33, _⟩ => ⟨S32768, .f32⟩
  | .hbm, ⟨34, _⟩ => ⟨S1x32768, .i32⟩
  | .hbm, ⟨35, _⟩ => ⟨S16, .i32⟩
  | .hbm, ⟨36, _⟩ => ⟨S16x1, .i32⟩
  | .hbm, ⟨37, _⟩ => ⟨S16x32768, .i32⟩
  | .hbm, ⟨38, _⟩ => ⟨S16x32768, .i32⟩
  | .hbm, ⟨39, _⟩ => ⟨S16x32768, .i1⟩
  | .hbm, ⟨40, _⟩ => ⟨S1x32768, .f32⟩
  | .hbm, ⟨41, _⟩ => ⟨S_, .f32⟩
  | .hbm, ⟨42, _⟩ => ⟨S_, .f32⟩
  | .hbm, ⟨43, _⟩ => ⟨S16x32768, .f32⟩
  | .hbm, ⟨44, _⟩ => ⟨S16x32768, .f32⟩
  | .hbm, ⟨45, _⟩ => ⟨S16x32768, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .i1⟩
  | .hbm, ⟨52, _⟩ => ⟨S_, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768x1, .i32⟩
  | .hbm, ⟨64, _⟩ => ⟨S32768, .f32⟩
  | .hbm, ⟨65, _⟩ => ⟨S32768, .f32⟩
  | .hbm, ⟨66, _⟩ => ⟨S32768, .f32⟩
  | .hbm, ⟨67, _⟩ => ⟨S_, .f32⟩
  | .hbm, ⟨68, _⟩ => ⟨S16, .f32⟩
  | .hbm, ⟨69, _⟩ => ⟨S32768x1, .i32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .i1⟩
  | .hbm, ⟨74, _⟩ => ⟨S_, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .i32⟩
  | .hbm, ⟨79, _⟩ => ⟨S32768, .i32⟩
  | .hbm, ⟨80, _⟩ => ⟨S32768, .i1⟩
  | .hbm, ⟨81, _⟩ => ⟨S_, .i32⟩
  | .hbm, ⟨82, _⟩ => ⟨S32768, .i32⟩
  | .hbm, ⟨83, _⟩ => ⟨S32768, .i32⟩
  | .hbm, ⟨84, _⟩ => ⟨S32768, .i32⟩
  | .hbm, ⟨85, _⟩ => ⟨S32768x1, .i32⟩
  | .hbm, ⟨86, _⟩ => ⟨S32768, .f32⟩
  | .hbm, ⟨87, _⟩ => ⟨S32768, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S_, .f32⟩
  | .hbm, ⟨92, _⟩ => ⟨S16x1024, .f32⟩
  | .hbm, ⟨93, _⟩ => ⟨S32768x1, .i32⟩
  | .hbm, ⟨94, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_c : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.Steps.lean ====
/- What one grid point of the kernel leaves in its two running sums and in its output block, as functions of the blocks it
   reads and of what the point before left. -/
module

public import proofs.«01_k».proof.Defs
public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Steps

open Cert.KernelIdeal Cert.KernelIdeal.Gen

variable {F : FTy → Type} [FloatOps F]

/-- The origin of a rank-two window is zero on both axes. -/
theorem hz : (![0, 0] : Fin 2 → Nat) = fun _ => 0 := funext fun a => by fin_cases a <;> rfl

/-- The origin of a rank-three window is zero on all axes. -/
theorem hz3 : (![0, 0, 0] : Fin 3 → Nat) = fun _ => 0 := funext fun a => by fin_cases a <;> rfl

/-- A point's addend to the weighted sums, from its six blocks. -/
def zBlock (x0 : Vec F S2048x1024 .f32) (x1 : Vec F S1x1x2048 .i32) (x2 : Vec F S1024x1024 .bf16) (x3 : Vec F S1x1024 .f32)
    (x4 : Vec F S1x512 .f32) (x5 : Vec F S1x1 .f32) : FVec F S16x1024 .f32 :=
  k0_pay11 (k0_pay6 x1) (k0_pay7 x0) (k0_pay8 x0 x2 x3) (k0_pay9 x0 x2 x3) x4 x5 x4 x5

/-- A point's new sums of weights, from its six blocks and the sums before. -/
def sStep (x0 : Vec F S2048x1024 .f32) (x1 : Vec F S1x1x2048 .i32) (x2 : Vec F S1024x1024 .bf16) (x3 : Vec F S1x1024 .f32)
    (x4 : Vec F S1x512 .f32) (x5 : Vec F S1x1 .f32) (s : Vec F S16x1 .f32) : FVec F S16x1 .f32 :=
  k0_pay12 (k0_pay6 x1) (k0_pay8 x0 x2 x3) (k0_pay9 x0 x2 x3) x4 x5 x4 x5 s

variable (c : Dev nD) (i : grid0.Coords) (arg1 : Memref sig .tc .vmem S2048x1024 .f32) (harg1 : arg1.IsWhole)
  (arg2 : Memref sig .tc .vmem S1x1x2048 .i32) (harg2 : arg2.IsWhole) (arg3 : Memref sig .tc .vmem S1024x1024 .bf16)
  (harg3 : arg3.IsWhole) (arg4 : Memref sig .tc .vmem S1x1024 .f32) (harg4 : arg4.IsWhole)
  (arg5 : Memref sig .tc .vmem S1x512 .f32) (harg5 : arg5.IsWhole) (arg6 : Memref sig .tc .vmem S1x1 .f32)
  (harg6 : arg6.IsWhole) (arg7 : Memref sig .tc .vmem S16x1024 .f32) (harg7 : arg7.IsWhole)
  (arg8 : Memref sig .tc .vmem S16x1024 .f32) (harg8 : arg8.IsWhole) (arg9 : Memref sig .tc .vmem S16x1 .f32)
  (harg9 : arg9.IsWhole)
  (x0 : Vec F S2048x1024 .f32) (x1 : Vec F S1x1x2048 .i32) (x2 : Vec F S1024x1024 .bf16) (x3 : Vec F S1x1024 .f32)
  (x4 : Vec F S1x512 .f32) (x5 : Vec F S1x1 .f32)

/-- The first point leaves its addend over zero in the weighted sums. -/
theorem first_z (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5 = k0_pay2 (zBlock x0 x1 x2 x3 x4 x5) k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S16x1024) hz, View.readCov_unit_zero (S := S16x1024) _ hz]
  simp only [View.readAt_eq_ld, harg1.read_unread, harg2.read_unread, harg3.read_unread, harg4.read_unread, harg5.read_unread,
    harg6.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

/-- The first point leaves its sum of weights over zero in the sums of weights. -/
theorem first_s (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4 x5 = k0_pay1 (sStep x0 x1 x2 x3 x4 x5 k0_pay5) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S16x1) hz, View.readCov_unit_zero (S := S16x1) _ hz]
  simp only [View.readAt_eq_ld, harg1.read_unread, harg2.read_unread, harg3.read_unread, harg4.read_unread, harg5.read_unread,
    harg6.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

variable (xs0 : Vec F S16x1024 .f32) (xs1 : Vec F S16x1 .f32)

/-- A middle point adds its addend to the weighted sums. -/
theorem mid_z (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 xs0 xs1 = k0_pay2 (zBlock x0 x1 x2 x3 x4 x5) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S16x1024) hz]
  simp only [View.readAt_eq_ld, harg1.read_unread, harg2.read_unread, harg3.read_unread, harg4.read_unread, harg5.read_unread,
    harg6.read_unread, harg8.read_unread, harg9.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

/-- A middle point adds its sum of weights to the sums of weights. -/
theorem mid_s (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x0 x1 x2 x3 x4 x5 xs0 xs1 = k0_pay1 (sStep x0 x1 x2 x3 x4 x5 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S16x1) hz]
  simp only [View.readAt_eq_ld, harg1.read_unread, harg2.read_unread, harg3.read_unread, harg4.read_unread, harg5.read_unread,
    harg6.read_unread, harg8.read_unread, harg9.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

/-- The last point adds its addend to the weighted sums. -/
theorem last_z (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 x5 xs0 xs1 = k0_pay2 (zBlock x0 x1 x2 x3 x4 x5) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S16x1024) hz]
  simp only [View.readAt_eq_ld, harg1.read_unread, harg2.read_unread, harg3.read_unread, harg4.read_unread, harg5.read_unread,
    harg6.read_unread, harg8.read_unread, harg9.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

/-- The last point adds its sum of weights to the sums of weights. -/
theorem last_s (hc0 : ¬cond0_0 i) (hc1 : cond0_1 i) :
    sout0_C_1 c i arg1 harg1 arg2 harg2 arg3 harg3 arg4 harg4 arg5 harg5 arg6 harg6 arg7 harg7 arg8 harg8 arg9 harg9 hc0 hc1 x0 x1 x2 x3 x4 x5 xs0 xs1 = k0_pay1 (sStep x0 x1 x2 x3 x4 x5 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S16x1) hz]
  simp only [View.readAt_eq_ld, harg1.read_unread, harg2.read_unread, harg3.read_unread, harg4.read_unread, harg5.read_unread,
    harg6.read_unread, harg8.read_unread, harg9.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

/-- The last point writes the new weighted sums over the new sums of weights. -/
theorem last_out (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 x5 xs0 xs1 = k0_pay3 (k0_pay1 (sStep x0 x1 x2 x3 x4 x5 xs1)) (k0_pay2 (zBlock x0 x1 x2 x3 x4 x5) xs0) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S16x1024) hz]
  simp only [View.readCov_unit_zero (S := S16x1024) _ hz, View.readCov_unit_zero (S := S16x1) _ hz]
  simp only [View.readAt_eq_ld, harg1.read_unread, harg2.read_unread, harg3.read_unread, harg4.read_unread, harg5.read_unread,
    harg6.read_unread, harg8.read_unread, harg9.read_unread, View.ld_unit_zero (S := S2048x1024) hz, View.ld_unit_zero (S := S1024x1024) hz,
    View.ld_unit_zero (S := S1x1024) hz, View.ld_unit_zero (S := S1x512) hz, View.ld_unit_zero (S := S1x1) hz,
    View.ld_unit_zero (S := S16x1024) hz, View.ld_unit_zero (S := S16x1) hz, View.ld_unit_zero (S := S1x1x2048) hz3]
  rfl

end Cert.KernelIdeal.Steps
-- ==== Proof.Pooling.lean ====
/- The mathematics of gated attention pooling over the extended reals, away from any program: the gate written with a
   hyperbolic tangent or with a logistic function, and a softmax's weights normalised before or after the weighted sum. -/
module

public import Idealize.ShloMosaic.Lib.Pointwise
public import Idealize.ShloMosaic.Lib.IdealHost

@[expose] public section

noncomputable section

namespace Cert.Pooling

open Idealize.ShloMosaic

/-- One half, as an extended real. -/
abbrev half : EReal := ((1 / 2 : ℝ) : EReal)

/-- The pattern 0x3F000000 denotes one half. -/
theorem ofBits_half : Ideal.ofBits .f32 0x3F000000#32 = half := by
  simp [Ideal.ofBits, Ideal.ieee, -EReal.coe_mul]; norm_num

/-- The pattern 0x7F800000 denotes plus infinity. -/
theorem ofBits_inf : Ideal.ofBits .f32 0x7F800000#32 = (⊤ : EReal) := by
  simp [Ideal.ofBits, Ideal.ieee]

/-- Two halves make a whole. -/
theorem two_mul_half : (2 : EReal) * half = 1 := by
  rw [show (2 : EReal) = ((2 : ℝ) : EReal) by norm_cast, ← EReal.coe_mul]; norm_num

/-- A factor that is neither negative nor infinite goes into a finite sum. -/
theorem mul_sum_of_nonneg {ι : Type*} (s : Finset ι) (f : ι → EReal) {t : EReal} (h0 : 0 ≤ t) (ht : t ≠ ⊤) :
    t * ∑ i ∈ s, f i = ∑ i ∈ s, t * f i := by
  classical
  induction s using Finset.induction_on with
  | empty => simp
  | insert a s ha ih => rw [Finset.sum_insert ha, Finset.sum_insert ha, EReal.left_distrib_of_nonneg_of_ne_top h0 ht, ih]

/-- An affine form whose weights and bias are halved is half the affine form. -/
theorem half_affine {K : ℕ} (x w : Fin K → EReal) (b : EReal) :
    (∑ k, x k * (half * w k)) + half * b = half * ((∑ k, x k * w k) + b) := by
  have h0 : (0 : EReal) ≤ half := by unfold half; exact_mod_cast (by norm_num : (0 : ℝ) ≤ 1 / 2)
  have ht : half ≠ ⊤ := EReal.coe_ne_top _
  rw [EReal.left_distrib_of_nonneg_of_ne_top h0 ht, mul_sum_of_nonneg _ _ h0 ht]
  exact congrArg (· + _) (Finset.sum_congr rfl fun k _ => mul_left_comm _ _ _)

/-- The logistic function `1 / (1 + exp (-u))` of an extended real. -/
def logistic (u : EReal) : EReal := Ideal.div 1 (1 + Ideal.exp (-u))

/-- One plus the hyperbolic tangent of half of `u` is twice the logistic function of `u`, the infinities included. -/
theorem one_add_tanh_half (u : EReal) : 1 + Ideal.tanh (half * u) = 2 * logistic u := by
  unfold logistic
  induction u with
  | bot =>
    rw [EReal.coe_mul_bot_of_pos (by norm_num)]
    rw [show Ideal.tanh ⊥ = -1 from rfl, show Ideal.exp (-⊥) = ⊤ from rfl]
    simp only [Ideal.div, EReal.add_top_of_ne_bot (show (1 : EReal) ≠ ⊥ by decide), EReal.inv_top, mul_zero, if_neg EReal.top_ne_zero]
    rw [← EReal.coe_one, ← EReal.coe_neg, ← EReal.coe_add]; simp
  | top =>
    rw [EReal.coe_mul_top_of_pos (by norm_num)]
    rw [show Ideal.tanh ⊤ = 1 from rfl, show Ideal.exp (-⊤) = 0 from rfl]
    simp only [Ideal.div, add_zero, inv_one, mul_one, if_neg (one_ne_zero (α := EReal))]
    rw [show (2 : EReal) = ((2 : ℝ) : EReal) by norm_cast, ← EReal.coe_one, ← EReal.coe_add]; norm_num
  | coe r =>
    have hp : (0 : ℝ) < 1 + Real.exp (-r) := by positivity
    have hr : (1 : ℝ) + Real.tanh (1 / 2 * r) = 2 * (1 * (1 + Real.exp (-r))⁻¹) := by
      have h1 : Real.exp (-r) = Real.exp (-(1 / 2 * r)) * Real.exp (-(1 / 2 * r)) := by rw [← Real.exp_add]; congr 1; ring
      have h2 : Real.exp (1 / 2 * r) * Real.exp (-(1 / 2 * r)) = 1 := by rw [← Real.exp_add]; simp
      rw [Real.tanh_eq_sinh_div_cosh, Real.sinh_eq, Real.cosh_eq, h1]
      have h3 := Real.exp_pos (1 / 2 * r)
      have h4 := Real.exp_pos (-(1 / 2 * r))
      generalize Real.exp (1 / 2 * r) = p at *
      generalize Real.exp (-(1 / 2 * r)) = q at *
      have hpq : p + q ≠ 0 := by positivity
      have hqq : 1 + q * q ≠ 0 := by positivity
      field_simp
      linear_combination (2 * q) * h2
    have hne : (1 : EReal) + ((Real.exp (-r) : ℝ) : EReal) ≠ 0 := by
      rw [← EReal.coe_one, ← EReal.coe_add]; exact_mod_cast hp.ne'
    have he : Ideal.exp (-(r : EReal)) = ((Real.exp (-r) : ℝ) : EReal) := by rw [← EReal.coe_neg]; rfl
    have htanh : Ideal.tanh (half * (r : EReal)) = ((Real.tanh (1 / 2 * r) : ℝ) : EReal) := by
      unfold half; rw [← EReal.coe_mul]; rfl
    rw [he, htanh, Ideal.div, if_neg hne, ← EReal.coe_one, ← EReal.coe_add, ← EReal.coe_add, ← EReal.coe_inv, ← EReal.coe_mul,
      show (2 : EReal) = ((2 : ℝ) : EReal) by norm_cast, ← EReal.coe_mul, hr]

/-- One hidden unit's share of a score: the gate with a halved argument and a halved weight is the logistic gate with the
    whole ones. -/
theorem gated_term (t u w : EReal) : t * (1 + Ideal.tanh (half * u)) * (half * w) = t * logistic u * w := by
  rw [one_add_tanh_half]
  calc t * (2 * logistic u) * (half * w) = (2 * half) * (t * logistic u * w) := by ac_rfl
    _ = _ := by rw [two_mul_half, one_mul]

/-- The same where the gate's argument is an affine form with halved weights and a halved bias. -/
theorem gated_unit {K : ℕ} (t : EReal) (x w : Fin K → EReal) (b v : EReal) :
    t * (1 + Ideal.tanh ((∑ k, x k * (half * w k)) + half * b)) * (half * v) = t * logistic ((∑ k, x k * w k) + b) * v := by
  rw [half_affine, gated_term]

/-- The exponential is never negative. -/
theorem exp_nonneg (a : EReal) : 0 ≤ Ideal.exp a := by
  induction a with
  | bot => exact le_rfl
  | top => exact le_top
  | coe r => exact EReal.coe_nonneg.mpr (Real.exp_pos r).le

/-- Shifting the exponent by a real number multiplies the exponential by a positive real number. -/
theorem exp_sub_coe (a : EReal) (r : ℝ) : Ideal.exp (a - (r : EReal)) = ((Real.exp (-r) : ℝ) : EReal) * Ideal.exp a := by
  induction a with
  | bot => rw [EReal.bot_sub, show Ideal.exp ⊥ = 0 from rfl, mul_zero]
  | top => rw [EReal.top_sub_coe, show Ideal.exp ⊤ = ⊤ from rfl, EReal.coe_mul_top_of_pos (Real.exp_pos (-r))]
  | coe s =>
    rw [← EReal.coe_sub]
    show ((Real.exp (s - r) : ℝ) : EReal) = _ * ((Real.exp s : ℝ) : EReal)
    rw [← EReal.coe_mul, ← Real.exp_add]; congr 2; ring

/-- The inverse of an extended real is never plus infinity. -/
theorem inv_ne_top (d : EReal) : d⁻¹ ≠ ⊤ := by
  induction d with
  | bot => simp
  | top => simp
  | coe r => rw [← EReal.coe_inv]; exact EReal.coe_ne_top _

/-- A denominator made safe: one in place of zero. -/
def safe (s : EReal) : EReal := if s = 0 then 1 else s

/-- THE NORMALISATION. Over the entries `I` of a segment, with scores `a` and any real shift `r`: the sum of `x` weighted by
    the shifted exponentials, each divided by their sum first, is the sum of `x` weighted by the plain exponentials, divided
    by their sum at the end. Both sides take one as the denominator where the sum is zero. -/
theorem normalise {ι : Type*} (I : Finset ι) (a x : ι → EReal) (r : ℝ) :
    ∑ n ∈ I, Ideal.div (Ideal.exp (a n - (r : EReal))) (safe (∑ n ∈ I, Ideal.exp (a n - (r : EReal)))) * x n
      = Ideal.div (∑ n ∈ I, Ideal.exp (a n) * x n) (safe (∑ n ∈ I, Ideal.exp (a n))) := by
  have hc : (0 : ℝ) < Real.exp (-r) := Real.exp_pos _
  simp only [exp_sub_coe]
  generalize Real.exp (-r) = c at hc
  rw [← mul_sum_of_nonneg _ _ (EReal.coe_nonneg.mpr hc.le) (EReal.coe_ne_top c)]
  have hcne : (c : EReal) ≠ 0 := by exact_mod_cast hc.ne'
  by_cases hS : ∑ n ∈ I, Ideal.exp (a n) = 0
  · have hp := (Finset.sum_eq_zero_iff_of_nonneg (fun n _ => exp_nonneg (a n))).mp hS
    rw [Finset.sum_eq_zero (s := I) (f := fun n => Ideal.exp (a n) * x n) (fun n hn => by rw [hp n hn, zero_mul])]
    rw [Finset.sum_eq_zero (fun n hn => ?_)]
    · simp [safe, hS, Ideal.div]
    · rw [hp n hn]; simp [safe, hS, Ideal.div]
  · have hcS : (c : EReal) * ∑ n ∈ I, Ideal.exp (a n) ≠ 0 := mul_ne_zero hcne hS
    have h0 : 0 ≤ (∑ n ∈ I, Ideal.exp (a n))⁻¹ := EReal.inv_nonneg_of_nonneg (Finset.sum_nonneg fun n _ => exp_nonneg (a n))
    have hcc : (c : EReal) * (c : EReal)⁻¹ = 1 := by rw [← EReal.coe_inv, ← EReal.coe_mul, mul_inv_cancel₀ hc.ne']; rfl
    simp only [safe, if_neg hS, if_neg hcS, Ideal.div]
    rw [mul_comm (∑ n ∈ I, _), mul_sum_of_nonneg _ _ h0 (inv_ne_top _), EReal.mul_inv]
    refine Finset.sum_congr rfl fun n _ => ?_
    generalize (∑ n ∈ I, Ideal.exp (a n))⁻¹ = t
    calc (c : EReal) * Ideal.exp (a n) * ((c : EReal)⁻¹ * t) * x n = ((c : EReal) * (c : EReal)⁻¹) * (t * (Ideal.exp (a n) * x n)) := by ac_rfl
      _ = _ := by rw [hcc, one_mul]

end Cert.Pooling
-- ==== Proof.Answer.lean ====
/- The answer that both programs compute: gated attention scores, and the softmax-weighted sum of the rows of each segment.
   Plain functions of the eight argument arrays, over the extended reals. -/
module

public import proofs.«01_k».proof.Proof.Pooling

@[expose] public section

noncomputable section

namespace Cert.Pooling

open Idealize.ShloMosaic

/-- A selection on the equality of two words is a case distinction on it. -/
theorem select_cmpi_eq (a b : BitVec 32) (x y : EReal) : Scalar.select (IntOp.cmpi .eq a b) x y = if a = b then x else y := by
  by_cases h : a = b
  · simp [Scalar.select, IntOp.cmpi, h]
  · have hb : (a == b) = false := beq_eq_false_iff_ne.mpr h
    simp [Scalar.select, IntOp.cmpi, h, hb]

/-- The score of row `n`: over the hidden units, the hyperbolic tangent of one affine form times the logistic function of
    another, weighted and summed, plus a bias. -/
def score (x : FVec Ideal ⟨2, ![32768, 1024]⟩ .f32) (wv : FVec Ideal ⟨2, ![512, 1024]⟩ .f32) (bv : FVec Ideal ⟨1, ![512]⟩ .f32)
    (wu : FVec Ideal ⟨2, ![512, 1024]⟩ .f32) (bu : FVec Ideal ⟨1, ![512]⟩ .f32) (ww : FVec Ideal ⟨2, ![1, 512]⟩ .f32)
    (bw : FVec Ideal ⟨1, ![1]⟩ .f32) (n : Fin 32768) : EReal :=
  (∑ l : Fin 512, Ideal.tanh ((∑ k : Fin 1024, (x (ix2 n k) : EReal) * wv (ix2 l k)) + bv (ix1 l))
    * logistic ((∑ k : Fin 1024, (x (ix2 n k) : EReal) * wu (ix2 l k)) + bu (ix1 l)) * ww (ix2 0 l)) + bw (ix1 0)

/-- The weight of row `n` in segment `s`, not normalised: the exponential of its score where the row belongs to the segment,
    zero elsewhere. -/
def weight (seg : IVec ⟨1, ![32768]⟩ 32) (a : Fin 32768 → EReal) (s : Fin 16) (n : Fin 32768) : EReal :=
  if BitVec.ofNat 32 s.val = seg (ix1 n) then Ideal.exp (a n) else 0

/-- The answer at segment `s` and column `j`: the weighted sum of the column over the sum of the weights, or over one where
    that sum is zero. -/
def answer (x : FVec Ideal ⟨2, ![32768, 1024]⟩ .f32) (seg : IVec ⟨1, ![32768]⟩ 32) (a : Fin 32768 → EReal) (s : Fin 16)
    (j : Fin 1024) : EReal :=
  Ideal.div (∑ n, weight seg a s n * x (ix2 n j)) (safe (∑ n, weight seg a s n))

end Cert.Pooling
-- ==== Proof.Block.lean ====
/- One grid point of the kernel read element by element over the extended reals: the scores of the 2048 rows of its block, and
   what it adds to the running sums. -/
module

public import proofs.«01_k».proof.Proof.Steps
public import proofs.«01_k».proof.Proof.Answer

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Steps Cert.Pooling

variable (x0 : Vec Ideal S2048x1024 .f32) (x1 : Vec Ideal S1x1x2048 .i32) (x2 : Vec Ideal S1024x1024 .bf16)
  (x3 : Vec Ideal S1x1024 .f32) (x4 : Vec Ideal S1x512 .f32) (x5 : Vec Ideal S1x1 .f32)

/-- Row `r`'s gate at hidden unit `l`, as the kernel computes it: both affine forms come from one joined weight matrix, and the
    logistic function is one plus a hyperbolic tangent. -/
def gate (r : Fin 2048) (l : Fin 512) : EReal :=
  Ideal.tanh ((∑ k : Fin 1024, (x0 (ix2 r k) : EReal) * x2 (ix2 k ⟨l.val, by omega⟩)) + x3 (ix2 0 ⟨l.val, by omega⟩))
    * (1 + Ideal.tanh ((∑ k : Fin 1024, (x0 (ix2 r k) : EReal) * x2 (ix2 k ⟨512 + l.val, by omega⟩)) + x3 (ix2 0 ⟨512 + l.val, by omega⟩)))

/-- Row `r`'s score, as the kernel computes it. -/
def rowScore (r : Fin 2048) : EReal := (∑ l : Fin 512, gate x0 x2 x3 r l * x4 (ix2 0 l)) + x5 (ix2 0 0)

/-- Row `r`'s weight in segment `s`, as the kernel computes it. -/
def rowWeight (s : Fin 16) (r : Fin 2048) : EReal :=
  if BitVec.ofNat 32 s.val = x1 (ix3 0 0 r) then Ideal.exp (rowScore x0 x2 x3 x4 x5 r) else 0

/-- The first half of the block holds the gates of rows 0 to 1023. -/
theorem first_half (r : Fin 1024) (l : Fin 512) : k0_pay8 x0 x2 x3 (ix2 r l) = gate x0 x2 x3 ⟨r.val, by omega⟩ l := by
  pointwise [k0_pay8, k0_pay7, gate]

/-- The second half of the block holds the gates of rows 1024 to 2047. -/
theorem second_half (r : Fin 1024) (l : Fin 512) :
    k0_pay9 x0 x2 x3 (ix2 r l) = gate x0 x2 x3 ⟨1024 + r.val, by omega⟩ l := by
  pointwise [k0_pay9, k0_pay7, gate]

/-- The weights of the whole block, the two halves joined. -/
theorem weights_apply (s : Fin 16) (r : Fin 2048) :
    k0_pay10 (k0_pay6 (F := Ideal) x1) (k0_pay8 x0 x2 x3) (k0_pay9 x0 x2 x3) x4 x5 x4 x5 (ix2 s r) = rowWeight x0 x1 x2 x3 x4 x5 s r := by
  pointwise [k0_pay10, k0_pay6]
  simp only [first_half, second_half, rowWeight, rowScore, select_cmpi_eq]
  split
  · rfl
  · next h =>
    have hr : (⟨1024 + (r.val - 1024), by omega⟩ : Fin 2048) = r := Fin.ext (by simp only; omega)
    simp only [hr]

/-- The new weighted sums: the old ones plus the block's weighted rows. -/
theorem zStep_apply (z : Vec Ideal S16x1024 .f32) (s : Fin 16) (j : Fin 1024) :
    k0_pay2 (zBlock x0 x1 x2 x3 x4 x5) z (ix2 s j)
      = (z (ix2 s j) : EReal) + ∑ r : Fin 2048, rowWeight x0 x1 x2 x3 x4 x5 s r * x0 (ix2 r j) := by
  unfold zBlock
  pointwise [k0_pay2, k0_pay11, k0_pay7]
  simp only [weights_apply]

/-- The new sums of weights: the old ones plus the block's weights. -/
theorem sStep_apply (z : Vec Ideal S16x1 .f32) (s : Fin 16) :
    k0_pay1 (sStep x0 x1 x2 x3 x4 x5 z) (ix2 s 0) = (z (ix2 s 0) : EReal) + ∑ r : Fin 2048, rowWeight x0 x1 x2 x3 x4 x5 s r := by
  unfold sStep
  pointwise [k0_pay1, k0_pay12]
  simp only [weights_apply]

/-- The last point's output: the weighted sums over the sums of weights made safe. -/
theorem finish_apply (z : Vec Ideal S16x1024 .f32) (y : Vec Ideal S16x1 .f32) (s : Fin 16) (j : Fin 1024) :
    k0_pay3 y z (ix2 s j) = Ideal.div (z (ix2 s j)) (safe (y (ix2 s 0))) := by
  pointwise [k0_pay3, safe]

/-- The weighted sums start at zero. -/
theorem zInit_apply (s : Fin 16) (j : Fin 1024) : k0_pay4 (F := Ideal) (ix2 s j) = (0 : EReal) := by
  pointwise [k0_pay4]

/-- The sums of weights start at zero. -/
theorem sInit_apply (s : Fin 16) : k0_pay5 (F := Ideal) (ix2 s 0) = (0 : EReal) := by
  pointwise [k0_pay5]

end Cert.KernelIdeal.Block
-- ==== Proof.Entry.lean ====
/- What the kernel's six input blocks hold at a grid point, in terms of the argument arrays, and with it the scores and weights
   of a block's rows as the answer's. -/
module

public import proofs.«01_k».proof.Proof.Block
public import Idealize.ShloMosaic.Lib.Claim
public import Idealize.ShloMosaic.Lib.Pipeline.ValueKit.Point
public import Idealize.ShloMosaic.Lib.StableHlo.ReadAt

@[expose] public section

set_option maxRecDepth 16384

noncomputable section

open Idealize.ShloMosaic Idealize.ShloMosaic.TcCoe Idealize.SL.Sem

namespace Cert.KernelIdeal.Entry

open Cert.KernelIdeal Cert.KernelIdeal.Gen Cert.KernelIdeal.Block Cert.Pooling

variable (m : (ℓ : Loc nD τ sig) → Buf (Elt Ideal) ℓ) (c : Dev nD)

/-- Where each window's block lies at point `t`: the rows and the segment numbers at place `t`, the rest at the origin. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] :=
  (by decide +kernel : ∀ t : Fin grid0.N, _)

/-- Row `r` of block `t` is row `2048 t + r` of the array. -/
def rowOf (t : Fin cfg0.N) (r : Fin 2048) : Fin 32768 :=
  ⟨2048 * t.val + r.val, by have := t.isLt; have : cfg0.N = 16 := N_0; omega⟩

/-- The block of rows. -/
theorem rows (t : Fin cfg0.N) (r : Fin 2048) (k : Fin 1024) :
    (iblk m c 0 t : Vec Ideal S2048x1024 .f32) (ix2 r k) = m ((c : Thread nD τ).loc main_arg0) (ix2 (rowOf t r) k) := by
  have hN : cfg0.N = 16 := N_0
  blk_ext [iblk, V_main_arg0, rowOf, idx t]

/-- The block of segment numbers. -/
theorem segs (t : Fin cfg0.N) (r : Fin 2048) :
    (iblk m c 1 t : Vec Ideal S1x1x2048 .i32) (ix3 0 0 r) = m ((c : Thread nD τ).loc main_arg1) (ix1 (rowOf t r)) := by
  have hN : cfg0.N = 16 := N_0
  have h1 : (iblk m c 1 t : Vec Ideal S1x1x2048 .i32) (ix3 0 0 r)
      = (V m c main_v10 : Vec Ideal S16x1x2048 .i32) (ix3 ⟨t.val, by have := t.isLt; omega⟩ 0 r) := by
    blk_ext [iblk, idx t]
  have hr : ∀ h, (⟨t.val * 2048 + r.val, h⟩ : Fin 32768) = rowOf t r := fun h => Fin.ext (by simp only [rowOf]; omega)
  rw [h1]
  entry_read
  pointwise
  rw [hr]

/-- The joined weight matrix: its block is the whole of it. -/
theorem joined (t : Fin cfg0.N) (k l : Fin 1024) :
    (iblk m c 2 t : Vec Ideal S1024x1024 .bf16) (ix2 k l) = (V m c main_v5 : Vec Ideal S1024x1024 .bf16) (ix2 k l) := by
  blk_ext [iblk, idx t]

/-- The left half of the joined weight matrix is the first weight matrix, transposed. -/
theorem joined_left (t : Fin cfg0.N) (k : Fin 1024) (l : Fin 512) :
    (iblk m c 2 t : Vec Ideal S1024x1024 .bf16) (ix2 k ⟨l.val, by omega⟩) = (m ((c : Thread nD τ).loc main_arg2) (ix2 l k) : EReal) := by
  rw [joined]
  entry_read
  pointwise

/-- The right half of the joined weight matrix is half the second weight matrix, transposed. -/
theorem joined_right (t : Fin cfg0.N) (k : Fin 1024) (l : Fin 512) :
    (iblk m c 2 t : Vec Ideal S1024x1024 .bf16) (ix2 k ⟨512 + l.val, by omega⟩)
      = half * (m ((c : Thread nD τ).loc main_arg4) (ix2 l k) : EReal) := by
  rw [joined]
  entry_read
  pointwise
  rw [ofBits_half]

/-- The joined bias: its block is the whole of it. -/
theorem bias (t : Fin cfg0.N) (l : Fin 1024) :
    (iblk m c 3 t : Vec Ideal S1x1024 .f32) (ix2 0 l) = (V m c main_v9 : Vec Ideal S1x1024 .f32) (ix2 0 l) := by
  blk_ext [iblk, idx t]

/-- The left half of the joined bias is the first bias. -/
theorem bias_left (t : Fin cfg0.N) (l : Fin 512) :
    (iblk m c 3 t : Vec Ideal S1x1024 .f32) (ix2 0 ⟨l.val, by omega⟩) = (m ((c : Thread nD τ).loc main_arg3) (ix1 l) : EReal) := by
  rw [bias]
  entry_read
  pointwise

/-- The right half of the joined bias is half the second bias. -/
theorem bias_right (t : Fin cfg0.N) (l : Fin 512) :
    (iblk m c 3 t : Vec Ideal S1x1024 .f32) (ix2 0 ⟨512 + l.val, by omega⟩)
      = half * (m ((c : Thread nD τ).loc main_arg5) (ix1 l) : EReal) := by
  rw [bias]
  entry_read
  pointwise
  rw [ofBits_half]

/-- The block of the score's weights is half of them. -/
theorem out_weights (t : Fin cfg0.N) (l : Fin 512) :
    (iblk m c 4 t : Vec Ideal S1x512 .f32) (ix2 0 l) = half * (m ((c : Thread nD τ).loc main_arg6) (ix2 0 l) : EReal) := by
  have h1 : (iblk m c 4 t : Vec Ideal S1x512 .f32) (ix2 0 l) = (V m c main_v12 : Vec Ideal S1x512 .f32) (ix2 0 l) := by
    blk_ext [iblk, idx t]
  rw [h1]
  entry_read
  pointwise
  rw [ofBits_half]

/-- The block of the score's bias. -/
theorem out_bias (t : Fin cfg0.N) :
    (iblk m c 5 t : Vec Ideal S1x1 .f32) (ix2 0 0) = (m ((c : Thread nD τ).loc main_arg7) (ix1 0) : EReal) := by
  have h1 : (iblk m c 5 t : Vec Ideal S1x1 .f32) (ix2 0 0) = (V m c main_v13 : Vec Ideal S1x1 .f32) (ix2 0 0) := by
    blk_ext [iblk, idx t]
  rw [h1]
  entry_read
  pointwise

/-- The answer's score of row `n`, of the kernel's argument arrays. -/
def scoreOf (n : Fin 32768) : EReal :=
  score (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) n

/-- The score that the kernel computes for a row of block `t` is the answer's score of that row. -/
theorem rowScore_eq (t : Fin cfg0.N) (r : Fin 2048) :
    rowScore (iblk m c 0 t) (iblk m c 2 t) (iblk m c 3 t) (iblk m c 4 t) (iblk m c 5 t) r = scoreOf m c (rowOf t r) := by
  unfold rowScore scoreOf score gate
  simp only [rows, joined_left, joined_right, bias_left, bias_right, out_weights, out_bias]
  exact congrArg (· + _) (Finset.sum_congr rfl fun l _ => gated_unit _ _ _ _ _)

/-- The weight that the kernel computes for a row of block `t` is the answer's weight of that row. -/
theorem rowWeight_eq (t : Fin cfg0.N) (s : Fin 16) (r : Fin 2048) :
    rowWeight (iblk m c 0 t) (iblk m c 1 t) (iblk m c 2 t) (iblk m c 3 t) (iblk m c 4 t) (iblk m c 5 t) s r
      = weight (m ((c : Thread nD τ).loc main_arg1)) (scoreOf m c) s (rowOf t r) := by
  unfold rowWeight weight
  rw [rowScore_eq, segs]

end Cert.KernelIdeal.Entry
-- ==== Proof.Sums.lean ====
/- The kernel's running sums after each grid point, and its result: the answer. -/
module

public import proofs.«01_k».proof.Proof.Entry
public import proofs.«01_k».proof.Proof.Gen.KernelIdeal.Value

@[expose] public section

set_option maxRecDepth 16384

noncomputable section

open Idealize.ShloMosaic Idealize.ShloMosaic.TcCoe Idealize.SL.Sem

namespace Cert.KernelIdeal.Sums

open Cert.KernelIdeal Cert.KernelIdeal.Gen Cert.KernelIdeal.Block Cert.KernelIdeal.Entry Cert.KernelIdeal.Steps Cert.Pooling

variable (m : (ℓ : Loc nD τ sig) → Buf (Elt Ideal) ℓ) (c : Dev nD)

/-- A row's weight in a segment, of the kernel's argument arrays. -/
abbrev weightOf (s : Fin 16) (n : Fin 32768) : EReal := weight (m ((c : Thread nD τ).loc main_arg1)) (scoreOf m c) s n

/-- A row's weighted entry in a column, of the kernel's argument arrays. -/
abbrev entryOf (s : Fin 16) (j : Fin 1024) (n : Fin 32768) : EReal :=
  weightOf m c s n * m ((c : Thread nD τ).loc main_arg0) (ix2 n j)

/-- The sum of `f` over the rows of block `t`, or zero past the grid. -/
def blockSum (f : Fin 32768 → EReal) (t : ℕ) : EReal :=
  if h : t < cfg0.N then ∑ r : Fin 2048, f (rowOf ⟨t, h⟩ r) else 0

/-- Within the grid the sum of block `t` is the sum over its rows. -/
theorem blockSum_of_lt (f : Fin 32768 → EReal) (t : Fin cfg0.N) : blockSum f t.val = ∑ r : Fin 2048, f (rowOf t r) :=
  dif_pos t.isLt

/-- Point `t`'s new weighted sums: the block's sum over its rows on top of what was there. -/
theorem z_of (t : Fin cfg0.N) (z : Vec Ideal S16x1024 .f32) (s : Fin 16) (j : Fin 1024) :
    k0_pay2 (zBlock (iblk m c 0 t) (iblk m c 1 t) (iblk m c 2 t) (iblk m c 3 t) (iblk m c 4 t) (iblk m c 5 t)) z (ix2 s j)
      = (z (ix2 s j) : EReal) + blockSum (entryOf m c s j) t.val := by
  refine (zStep_apply (iblk m c 0 t) (iblk m c 1 t) (iblk m c 2 t) (iblk m c 3 t) (iblk m c 4 t) (iblk m c 5 t) z s j).trans ?_
  rw [blockSum_of_lt]
  simp only [rowWeight_eq, rows]

/-- Point `t`'s new sums of weights: the block's weights on top of what was there. -/
theorem s_of (t : Fin cfg0.N) (z : Vec Ideal S16x1 .f32) (s : Fin 16) :
    k0_pay1 (sStep (iblk m c 0 t) (iblk m c 1 t) (iblk m c 2 t) (iblk m c 3 t) (iblk m c 4 t) (iblk m c 5 t) z) (ix2 s 0)
      = (z (ix2 s 0) : EReal) + blockSum (weightOf m c s) t.val := by
  refine (sStep_apply (iblk m c 0 t) (iblk m c 1 t) (iblk m c 2 t) (iblk m c 3 t) (iblk m c 4 t) (iblk m c 5 t) z s).trans ?_
  rw [blockSum_of_lt]
  simp only [rowWeight_eq]

/-- After point `n`, short of the last, the two scratch buffers hold the sums over the blocks up to `n`. -/
theorem running (s : Fin 16) (j : Fin 1024) : ∀ (n : ℕ) (hn : n < cfg0.N), n < 15 →
    (outsAt0 m c n hn).2.1 (ix2 s j) = ∑ t ∈ Finset.range (n + 1), blockSum (entryOf m c s j) t
    ∧ (outsAt0 m c n hn).2.2 (ix2 s 0) = ∑ t ∈ Finset.range (n + 1), blockSum (weightOf m c s) t
  | 0, hn, _ => by
    rw [outsAt0_A m c ⟨0, hn⟩ (by dsimp only) (by dsimp only; omega)]
    dsimp only
    rw [first_z, first_s, z_of, s_of, zInit_apply, sInit_apply, Finset.sum_range_one, Finset.sum_range_one, zero_add, zero_add]
    exact ⟨rfl, rfl⟩
  | n + 1, hn, h15 => by
    obtain ⟨hz, hs⟩ := running s j n (Nat.lt_of_succ_lt hn) (by omega)
    rw [outsAt0_B m c ⟨n + 1, hn⟩ (by dsimp only; omega) (by dsimp only; omega)]
    dsimp only
    rw [mid_z, mid_s, z_of, s_of, Finset.sum_range_succ _ (n + 1), Finset.sum_range_succ _ (n + 1)]
    exact ⟨congrArg (· + _) hz, congrArg (· + _) hs⟩

/-- The rows, named by block and place in the block. -/
def rowAt : Fin 16 × Fin 2048 ≃ Fin 32768 := finProdFinEquiv.trans (finCongr (by norm_num))

/-- The blocks' sums add up to the sum over all rows. -/
theorem sum_blocks (f : Fin 32768 → EReal) : ∑ t ∈ Finset.range 16, blockSum f t = ∑ n, f n := by
  have hN : cfg0.N = 16 := N_0
  rw [← Fin.sum_univ_eq_sum_range]
  have h1 : ∀ t : Fin 16, blockSum f t.val = ∑ r : Fin 2048, f (rowAt (t, r)) := fun t => by
    rw [blockSum, dif_pos (by omega)]
    refine Finset.sum_congr rfl fun r _ => congrArg f (Fin.ext ?_)
    simp only [rowOf, rowAt, Equiv.trans_apply, finProdFinEquiv_apply_val, finCongr_apply, Fin.val_cast]
    omega
  rw [Finset.sum_congr rfl fun t _ => h1 t, ← Fintype.sum_prod_type']
  exact Equiv.sum_comp rowAt f

/-- What the last point writes: the sums over all blocks, the weighted ones over the sums of weights made safe. -/
theorem written (s : Fin 16) (j : Fin 1024) (h15 : 15 < cfg0.N) :
    (outsAt0 m c 15 h15).1 (ix2 s j)
      = Ideal.div (∑ t ∈ Finset.range (15 + 1), blockSum (entryOf m c s j) t)
          (safe (∑ t ∈ Finset.range (15 + 1), blockSum (weightOf m c s) t)) := by
  obtain ⟨hz, hs⟩ := running m c s j 14 (Nat.lt_of_succ_lt h15) (by omega)
  rw [outsAt0_C m c ⟨15, h15⟩ (by dsimp only; omega) (by dsimp only)]
  dsimp only
  rw [last_out, finish_apply, z_of, s_of, Finset.sum_range_succ _ 15, Finset.sum_range_succ _ 15, ← hz, ← hs]

/-- THE KERNEL'S RESULT, element by element, is the answer. -/
theorem result (s : Fin 16) (j : Fin 1024) :
    Value.G6 m c (ix2 s j) = answer (m ((c : Thread nD τ).loc main_arg0)) (m ((c : Thread nD τ).loc main_arg1)) (scoreOf m c) s j := by
  have h15 : 15 < cfg0.N := lt_of_lt_of_eq (by decide) N_0.symm
  have hG : Value.G6 m c (ix2 s j) = (outsAt0 m c 15 h15).1 (ix2 s j) := by
    rw [Value.G6_last, Value.outsAt0_sweep m c 15 h15]
  rw [hG, written, sum_blocks, sum_blocks]
  rfl

end Cert.KernelIdeal.Sums
-- ==== Proof.RefTerms.lean ====
/- The reference's result named stage by stage: the scores, the shift of each segment, the shifted exponentials, their sums, the
   normalised weights and the weighted sums. -/
module

public import proofs.«01_k».proof.Proof.Gen.ReferenceIdeal.Run
public import proofs.«01_k».proof.Proof.Answer

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen

/-- One affine form of every row at every hidden unit. -/
def affine (x : FVec Ideal S32768x1024 .f32) (w : FVec Ideal S512x1024 .f32) (b : FVec Ideal S512 .f32) : FVec Ideal S32768x512 .f32 :=
  addf (Host.dotGeneral dot_S32768x1024_S1024x512_S32768x512_1_0_0_1_n_n none x
      (transpose S1024x512 [1, 0] w transposes_S512x1024_S1024x512_1_0))
    (broadcastInDim S32768x512 ![0, 1] bcast_S1x512_S32768x512_0_1 (broadcastInDim S1x512 ![1] bcast_S512_S1x512_1 b))

/-- The gate of every row at every hidden unit. -/
def gates (hv hu : FVec Ideal S32768x512 .f32) : FVec Ideal S32768x512 .f32 :=
  mulf (Host.tanh hv) (Host.divf (broadcastInDim S32768x512 ![] bcast_S_S32768x512 (constant S_ .f32 0x3F800000#32))
    (addf (broadcastInDim S32768x512 ![] bcast_S_S32768x512 (constant S_ .f32 0x3F800000#32)) (Host.exp (Host.negf hu))))

/-- The score of every row, from its gates. -/
def scores (g : FVec Ideal S32768x512 .f32) (ww : FVec Ideal S1x512 .f32) (bw : FVec Ideal S1 .f32) : FVec Ideal S32768 .f32 :=
  shapeCast S32768 (addf (Host.dotGeneral dot_S32768x512_S512x1_S32768x1_1_0_0_1_n_n none g
      (transpose S512x1 [1, 0] ww transposes_S1x512_S512x1_1_0))
    (broadcastInDim S32768x1 ![0, 1] bcast_S1x1_S32768x1_0_1 (broadcastInDim S1x1 ![1] bcast_S1_S1x1_1 bw))) shapeCasts_S32768x1_S32768

/-- The largest score of each segment. -/
def largest (seg : IVec S32768 32) (a : FVec Ideal S32768 .f32) : FVec Ideal S16 .f32 :=
  Host.reduce FloatOps.maximumf (select (cmpi .eq (broadcastInDim S16x32768 ![0, 1] bcast_S1x32768_S16x32768_0_1
      (broadcastInDim S1x32768 ![1] bcast_S32768_S1x32768_1 seg))
      (broadcastInDim S16x32768 ![0, 1] bcast_S16x1_S16x32768_0_1 (broadcastInDim S16x1 ![0] bcast_S16_S16x1_0 (iotaInDim S16 32 0))))
    (broadcastInDim S16x32768 ![0, 1] bcast_S1x32768_S16x32768_0_1 (broadcastInDim S1x32768 ![1] bcast_S32768_S1x32768_1 a))
    (broadcastInDim S16x32768 ![] bcast_S_S16x32768 (id (constant S_ .f32 0xFF800000#32))))
    (constant S_ .f32 0xFF800000#32) reducesTo_S16x32768_S16_d1 h_S_

/-- The shift of each segment: `M` where it is finite, zero elsewhere. -/
def shift (M : FVec Ideal S16 .f32) : FVec Ideal S16 .f32 :=
  select (cmpf .olt (Host.absf M) (broadcastInDim S16 ![] bcast_S_S16 (constant S_ .f32 0x7F800000#32))) M
    (broadcastInDim S16 ![] bcast_S_S16 (id (constant S_ .f32 0x00000000#32)))

/-- The segment numbers as a column, a negative one counted from the end. -/
def wrapped (seg : IVec S32768 32) : IVec S32768x1 32 :=
  broadcastInDim S32768x1 ![0] bcast_S32768_S32768x1_0
    (select (cmpi .slt seg (broadcastInDim S32768 ![] bcast_S_S32768 (constantI S_ 32 0#32)))
      (addi seg (broadcastInDim S32768 ![] bcast_S_S32768 (constantI S_ 32 16#32))) seg)

/-- Each row's entry of a vector over the segments. -/
def taken (v : FVec Ideal S16 .f32) (seg : IVec S32768 32) : FVec Ideal S32768 .f32 :=
  Host.gather gather_S16_S32768x1_S32768_n_0_n_n_0_1_1 v (wrapped seg)

/-- The shifted exponentials. -/
def exps (a : FVec Ideal S32768 .f32) (v : FVec Ideal S16 .f32) (seg : IVec S32768 32) : FVec Ideal S32768 .f32 :=
  Host.exp (subf a (taken v seg))

/-- The sum of a vector over each segment. -/
def segSum (seg : IVec S32768 32) (e : FVec Ideal S32768 .f32) : FVec Ideal S16 .f32 :=
  Host.scatterAdd scatter_S16_S32768x1_S32768_n_0_0_1 (broadcastInDim S16 ![] bcast_S_S16 (constant S_ .f32 0x00000000#32))
    (broadcastInDim S32768x1 ![0] bcast_S32768_S32768x1_0 seg) e

/-- Denominators made safe: one in place of zero. -/
def denom (v : FVec Ideal S16 .f32) : FVec Ideal S16 .f32 :=
  select (cmpf .oeq v (broadcastInDim S16 ![] bcast_S_S16 (constant S_ .f32 0x00000000#32)))
    (broadcastInDim S16 ![] bcast_S_S16 (id (constant S_ .f32 0x3F800000#32))) v

/-- The weighted sums of the rows of each segment. -/
def pooled (x : FVec Ideal S32768x1024 .f32) (seg : IVec S32768 32) (w : FVec Ideal S32768 .f32) : FVec Ideal S16x1024 .f32 :=
  Host.scatterAdd scatter_S16x1024_S32768x1_S32768x1024_1_0_0_1
    (broadcastInDim S16x1024 ![] bcast_S_S16x1024 (constant S_ .f32 0x00000000#32))
    (broadcastInDim S32768x1 ![0] bcast_S32768_S32768x1_0 seg)
    (mulf (broadcastInDim S32768x1024 ![0, 1] bcast_S32768x1_S32768x1024_0_1 (broadcastInDim S32768x1 ![0] bcast_S32768_S32768x1_0 w)) x)

/-- From the scores to the result: shift, exponentials, normalisation, pooling. -/
def softPool (x : FVec Ideal S32768x1024 .f32) (seg : IVec S32768 32) (a : FVec Ideal S32768 .f32) : FVec Ideal S16x1024 .f32 :=
  pooled x seg (Host.divf (exps a (shift (largest seg a)) seg) (taken (denom (segSum seg (exps a (shift (largest seg a)) seg))) seg))

variable (m : (ℓ : Loc nD τ sig) → Buf (Elt Ideal) ℓ) (c : Dev nD)

/-- The scores of the reference's argument arrays. -/
def scoresOf : FVec Ideal S32768 .f32 :=
  scores (gates (affine (m ((c.tc : Thread nD τ).loc main_arg0)) (m ((c.tc : Thread nD τ).loc main_arg2)) (m ((c.tc : Thread nD τ).loc main_arg3)))
      (affine (m ((c.tc : Thread nD τ).loc main_arg0)) (m ((c.tc : Thread nD τ).loc main_arg4)) (m ((c.tc : Thread nD τ).loc main_arg5))))
    (m ((c.tc : Thread nD τ).loc main_arg6)) (m ((c.tc : Thread nD τ).loc main_arg7))

/-- The reference's result is these stages in turn. -/
theorem result_eq : Value.res_out0 m c
    = softPool (m ((c.tc : Thread nD τ).loc main_arg0)) (m ((c.tc : Thread nD τ).loc main_arg1)) (scoresOf m c) := rfl

end Cert.ReferenceIdeal.Terms
-- ==== Proof.RefRead.lean ====
/- The reference read element by element: where a row's update lands, the sums over a segment, the value each row takes from its
   segment, and with these the whole result as the answer. -/
module

public import proofs.«01_k».proof.Proof.RefTerms
public import Idealize.ShloMosaic.Lib.Pointwise
public import Idealize.ShloMosaic.Lib.Routing.OpsPair
public import Idealize.ShloMosaic.Lib.Routing.OpsSearch

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen Cert.Pooling

/-- The rows of segment `s`. -/
def rowsOf (seg : IVec S32768 32) (s : Fin 16) : Finset (Fin 32768) :=
  Finset.univ.filter fun n => BitVec.ofNat 32 s.val = seg (ix1 n)

/-- A word read as a signed number is a segment's number exactly when it is that segment's word. -/
theorem toInt_eq_iff (b : BitVec 32) (s : Fin 16) : b.toInt = (s.val : Int) ↔ BitVec.ofNat 32 s.val = b := by
  have hs : (BitVec.ofNat 32 s.val).toInt = (s.val : Int) := WordCmp.toInt_ofNat_of_lt (w := 32) (by omega)
  rw [← hs]
  exact ⟨fun h => (BitVec.eq_of_toInt_eq h).symm, fun h => h ▸ rfl⟩

/-- The segment numbers stood up as a column hold, in row `n`, the number of row `n`. -/
theorem column_apply (seg : IVec S32768 32) (n : Fin 32768) :
    broadcastInDim S32768x1 ![0] bcast_S32768_S32768x1_0 seg (ix2 n 0) = seg (ix1 n) := by
  pointwise

/-- The update of row `n` lands in segment `s` exactly when the row belongs to it. -/
theorem lands_one (seg : IVec S32768 32) (n : Fin 32768) (s : Fin 16) :
    scatter_S16_S32768x1_S32768_n_0_0_1.resultIdx? (ix1 n) (broadcastInDim S32768x1 ![0] bcast_S32768_S32768x1_0 seg) = some (ix1 s)
      ↔ BitVec.ofNat 32 s.val = seg (ix1 n) := by
  rw [Routing.resultIdx?_eq_some, ← toInt_eq_iff, ← column_apply seg n]
  have hst : scatter_S16_S32768x1_S32768_n_0_0_1.start (ix1 n) (broadcastInDim S32768x1 ![0] bcast_S32768_S32768x1_0 seg) 0
      = (broadcastInDim S32768x1 ![0] bcast_S32768_S32768x1_0 seg (ix2 n 0)).toInt := by
    unfold ScatterDims.start
    rw [dif_pos (show (0 : Fin 1) ∈ scatter_S16_S32768x1_S32768_n_0_0_1.scatterDimsToOperandDims by decide)]
    refine congrArg (fun i => BitVec.toInt (broadcastInDim S32768x1 ![0] bcast_S32768_S32768x1_0 seg i)) (funext fun b => Fin.ext ?_)
    match b with
    | 0 => rfl
    | 1 => rfl
  have hw : scatter_S16_S32768x1_S32768_n_0_0_1.window (ix1 n) 0 = 0 := rfl
  refine ⟨fun h => ?_, fun h a => ?_⟩
  · have h0 := h 0
    rw [hst, hw] at h0
    simpa using h0
  · match a with
    | 0 => rw [hst, hw]; simpa using h

/-- Entry `j'` of the update of row `n` lands at segment `s` and column `j` exactly when the row belongs to the segment and the
    columns agree. -/
theorem lands_two (seg : IVec S32768 32) (n : Fin 32768) (j' : Fin 1024) (s : Fin 16) (j : Fin 1024) :
    scatter_S16x1024_S32768x1_S32768x1024_1_0_0_1.resultIdx? (ix2 n j') (broadcastInDim S32768x1 ![0] bcast_S32768_S32768x1_0 seg)
      = some (ix2 s j) ↔ BitVec.ofNat 32 s.val = seg (ix1 n) ∧ j' = j := by
  rw [Routing.resultIdx?_eq_some, ← toInt_eq_iff, ← column_apply seg n]
  have hst : scatter_S16x1024_S32768x1_S32768x1024_1_0_0_1.start (ix2 n j')
      (broadcastInDim S32768x1 ![0] bcast_S32768_S32768x1_0 seg) 0
      = (broadcastInDim S32768x1 ![0] bcast_S32768_S32768x1_0 seg (ix2 n 0)).toInt := by
    unfold ScatterDims.start
    rw [dif_pos (show (0 : Fin 2) ∈ scatter_S16x1024_S32768x1_S32768x1024_1_0_0_1.scatterDimsToOperandDims by decide)]
    refine congrArg (fun i => BitVec.toInt (broadcastInDim S32768x1 ![0] bcast_S32768_S32768x1_0 seg i)) (funext fun b => Fin.ext ?_)
    match b with
    | 0 => rfl
    | 1 => rfl
  have hst1 : scatter_S16x1024_S32768x1_S32768x1024_1_0_0_1.start (ix2 n j')
      (broadcastInDim S32768x1 ![0] bcast_S32768_S32768x1_0 seg) 1 = 0 := rfl
  have hw : scatter_S16x1024_S32768x1_S32768x1024_1_0_0_1.window (ix2 n j') 0 = 0 := rfl
  have hw1 : scatter_S16x1024_S32768x1_S32768x1024_1_0_0_1.window (ix2 n j') 1 = j'.val := rfl
  refine ⟨fun h => ?_, fun h a => ?_⟩
  · have h0 := h 0
    have h1 := h 1
    rw [hst, hw] at h0
    rw [hst1, hw1] at h1
    refine ⟨by simpa using h0, Fin.ext ?_⟩
    have h2 : (0 : Int) + (j'.val : Int) = (j.val : Int) := h1
    omega
  · match a with
    | 0 => rw [hst, hw]; simpa using h.1
    | 1 => rw [hst1, hw1, h.2]; exact zero_add _

/-- The sum of a vector over segment `s`. -/
theorem segSum_apply (seg : IVec S32768 32) (e : FVec Ideal S32768 .f32) (s : Fin 16) :
    segSum seg e (ix1 s) = ∑ n ∈ rowsOf seg s, (e (ix1 n) : EReal) := by
  have h0 : broadcastInDim S16 ![] bcast_S_S16 (constant (F := Ideal) S_ .f32 0x00000000#32) (ix1 s) = (0 : EReal) := by
    pointwise
  show _ + (∑ k ∈ Finset.univ.filter _, e k : EReal) = _
  rw [h0, zero_add, Finset.sum_filter, sum_idx1, rowsOf, Finset.sum_filter]
  exact Finset.sum_congr rfl fun n _ => if_congr (lands_one seg n s) rfl rfl

/-- The pooled rows at segment `s` and column `j`: the weighted sum of the column over the segment. -/
theorem pooled_apply (x : FVec Ideal S32768x1024 .f32) (seg : IVec S32768 32) (w : FVec Ideal S32768 .f32) (s : Fin 16) (j : Fin 1024) :
    pooled x seg w (ix2 s j) = ∑ n ∈ rowsOf seg s, (w (ix1 n) : EReal) * x (ix2 n j) := by
  have h0 : broadcastInDim S16x1024 ![] bcast_S_S16x1024 (constant (F := Ideal) S_ .f32 0x00000000#32) (ix2 s j) = (0 : EReal) := by
    pointwise
  have hu : ∀ n : Fin 32768, mulf (broadcastInDim S32768x1024 ![0, 1] bcast_S32768x1_S32768x1024_0_1
      (broadcastInDim S32768x1 ![0] bcast_S32768_S32768x1_0 w)) x (ix2 n j) = (w (ix1 n) : EReal) * x (ix2 n j) := by
    intro n
    pointwise
  show _ + (∑ k ∈ Finset.univ.filter _, _ : EReal) = _
  rw [h0, zero_add, Finset.sum_filter, sum_idx2, rowsOf, Finset.sum_filter]
  refine Finset.sum_congr rfl fun n _ => ?_
  rw [Finset.sum_eq_single j (fun b _ hb => if_neg fun h => hb ((lands_two seg n b s j).1 h).2) fun h => absurd (Finset.mem_univ j) h, hu]
  exact if_congr ((lands_two seg n j s j).trans (and_iff_left rfl)) rfl rfl

/-- A row of segment `s` takes entry `s` of a vector over the segments. -/
theorem taken_apply (v : FVec Ideal S16 .f32) (seg : IVec S32768 32) (s : Fin 16) (n : Fin 32768) (hn : n ∈ rowsOf seg s) :
    taken v seg (ix1 n) = v (ix1 s) := by
  have hseg : BitVec.ofNat 32 s.val = seg (ix1 n) := (Finset.mem_filter.1 hn).2
  have hlt := s.isLt
  have hw : wrapped seg (ix2 n 0) = BitVec.ofNat 32 s.val := by
    pointwise [wrapped]
    rw [Routing.wrap_of_lt, hseg]
    rw [← hseg, BitVec.toNat_ofNat]
    omega
  exact Routing.take_ap gather_S16_S32768x1_S32768_n_0_n_n_0_1_1 rfl rfl rfl rfl v (wrapped seg) n hlt (by omega) hw

/-- The shift of every segment is a real number, whatever the largest scores are. -/
theorem shift_real (M : FVec Ideal S16 .f32) (s : Fin 16) : ∃ r : ℝ, shift M (ix1 s) = (r : EReal) := by
  pointwise [shift]
  generalize M (ix1 s) = u
  have hz : id (constant (F := Ideal) S_ .f32 0x00000000#32) ix0 = ((0 : ℝ) : EReal) := Ideal.ofBits_zero_f32
  rw [hz, ofBits_inf]
  by_cases h : max (u : EReal) (-u) < ⊤
  · refine ⟨(u : EReal).toReal, ?_⟩
    rw [if_pos (show FloatOps.absf u < (⊤ : EReal) from h)]
    refine (EReal.coe_toReal (fun e => ?_) (fun e => ?_)).symm
    · exact absurd h (by rw [e]; simp)
    · exact absurd h (by rw [e]; simp)
  · exact ⟨0, if_neg h⟩

/-- The safe denominator of a segment. -/
theorem denom_apply (v : FVec Ideal S16 .f32) (s : Fin 16) : denom v (ix1 s) = safe (v (ix1 s)) := by
  have ho : id (constant (F := Ideal) S_ .f32 0x3F800000#32) ix0 = (1 : EReal) := Ideal.ofBits_one_f32
  pointwise [denom]
  rw [ho]
  rfl

/-- A quotient of two vectors, read at a row. -/
theorem divf_apply (p q : FVec Ideal S32768 .f32) (n : Fin 32768) :
    Host.divf p q (ix1 n) = Ideal.div (p (ix1 n)) (q (ix1 n)) := rfl

/-- From the scores to the result, at segment `s` and column `j`: the answer. -/
theorem softPool_apply (x : FVec Ideal S32768x1024 .f32) (seg : IVec S32768 32) (a : FVec Ideal S32768 .f32) (s : Fin 16) (j : Fin 1024) :
    softPool x seg a (ix2 s j) = answer x seg (fun n => a (ix1 n)) s j := by
  obtain ⟨r, hr⟩ := shift_real (largest seg a) s
  have he : ∀ n ∈ rowsOf seg s, exps a (shift (largest seg a)) seg (ix1 n) = Ideal.exp (a (ix1 n) - (r : EReal)) := by
    intro n hn
    rw [← hr, ← taken_apply (shift (largest seg a)) seg s n hn]
    rfl
  have hd : denom (segSum seg (exps a (shift (largest seg a)) seg)) (ix1 s)
      = safe (∑ n ∈ rowsOf seg s, Ideal.exp (a (ix1 n) - (r : EReal))) := by
    rw [denom_apply, segSum_apply, Finset.sum_congr rfl he]
  have hw : ∀ n ∈ rowsOf seg s, Host.divf (exps a (shift (largest seg a)) seg)
      (taken (denom (segSum seg (exps a (shift (largest seg a)) seg))) seg) (ix1 n)
      = Ideal.div (Ideal.exp (a (ix1 n) - (r : EReal))) (safe (∑ n ∈ rowsOf seg s, Ideal.exp (a (ix1 n) - (r : EReal)))) := by
    intro n hn
    rw [divf_apply, he n hn, taken_apply (denom (segSum seg (exps a (shift (largest seg a)) seg))) seg s n hn, hd]
  unfold softPool
  rw [pooled_apply, Finset.sum_congr rfl fun n hn => congrArg (fun w : EReal => w * x (ix2 n j)) (hw n hn),
    normalise (rowsOf seg s) (fun n => a (ix1 n)) (fun n => x (ix2 n j)) r]
  simp only [answer, weight, rowsOf, Finset.sum_filter, ite_mul, zero_mul]

/-- One affine form at row `n` and hidden unit `l`. -/
theorem affine_apply (x : FVec Ideal S32768x1024 .f32) (w : FVec Ideal S512x1024 .f32) (b : FVec Ideal S512 .f32) (n : Fin 32768)
    (l : Fin 512) : affine x w b (ix2 n l) = (∑ k : Fin 1024, (x (ix2 n k) : EReal) * w (ix2 l k)) + b (ix1 l) := by
  pointwise [affine]

/-- The gate at row `n` and hidden unit `l`. -/
theorem gates_apply (hv hu : FVec Ideal S32768x512 .f32) (n : Fin 32768) (l : Fin 512) :
    gates hv hu (ix2 n l) = Ideal.tanh (hv (ix2 n l)) * logistic (hu (ix2 n l)) := by
  pointwise [gates]
  rfl

/-- The score of row `n` from its gates. -/
theorem scores_apply (g : FVec Ideal S32768x512 .f32) (ww : FVec Ideal S1x512 .f32) (bw : FVec Ideal S1 .f32) (n : Fin 32768) :
    scores g ww bw (ix1 n) = (∑ l : Fin 512, (g (ix2 n l) : EReal) * ww (ix2 0 l)) + bw (ix1 0) := by
  pointwise [scores]

/-- The score of row `n` of the reference's argument arrays. -/
theorem scoresOf_apply (m : (ℓ : Loc nD τ sig) → Buf (Elt Ideal) ℓ) (c : Dev nD) (n : Fin 32768) :
    scoresOf m c (ix1 n) = score (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) n := by
  unfold scoresOf
  rw [scores_apply]
  simp only [gates_apply, affine_apply]
  rfl

/-- THE REFERENCE'S RESULT, element by element, is the answer. -/
theorem result (m : (ℓ : Loc nD τ sig) → Buf (Elt Ideal) ℓ) (c : Dev nD) (s : Fin 16) (j : Fin 1024) :
    Value.res_out0 m c (ix2 s j) = answer (m ((c.tc : Thread nD τ).loc main_arg0)) (m ((c.tc : Thread nD τ).loc main_arg1))
      (score (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) s j := by
  rw [result_eq, softPool_apply, funext (scoresOf_apply m c)]

end Cert.ReferenceIdeal.Terms
-- ==== Proof.lean ====
/- The proof of the claim: the three programs' frames, and the equation of the kernel's result with the reference's, each being
   the answer of Proof/Answer.lean at every segment and column. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Sums
public import proofs.«01_k».proof.Proof.RefRead

@[expose] public section

noncomputable section

namespace Cert.Proof

open Idealize.ShloMosaic Idealize.SL.Sem

/-- The reference leaves its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the kernel's result is the reference's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  funext i
  obtain ⟨s, j, rfl⟩ : ∃ (s : Fin 16) (j : Fin 1024), i = ix2 s j := ⟨i 0, i 1, eq_ix2 i⟩
  obtain ⟨h0, h1, h2, h3, h4, h5, h6, h7⟩ := hagree c
  refine (Cert.ReferenceIdeal.Terms.result m' c s j).trans (Eq.trans ?_ (Cert.KernelIdeal.Sums.result m c s j).symm)
  rw [h0, h1, h2, h3, h4, h5, h6, h7]
  rfl

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
